-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x9984 : Shape := ⟨3, ![8, 1024, 9984]⟩
abbrev S9984x2048 : Shape := ⟨2, ![9984, 2048]⟩
abbrev S2048 : Shape := ⟨1, ![2048]⟩
abbrev S1x2048 : Shape := ⟨2, ![1, 2048]⟩
abbrev S1024x8x2048 : Shape := ⟨3, ![1024, 8, 2048]⟩
abbrev S32x2x128 : Shape := ⟨3, ![32, 2, 128]⟩
abbrev S1x256x9984 : Shape := ⟨3, ![1, 256, 9984]⟩
abbrev S32x8x2048 : Shape := ⟨3, ![32, 8, 2048]⟩
abbrev S1x2x128 : Shape := ⟨3, ![1, 2, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128x256 : Shape := ⟨2, ![128, 256]⟩
abbrev S1x128 : Shape := ⟨2, ![1, 128]⟩
abbrev S1x1x128 : Shape := ⟨3, ![1, 1, 128]⟩
abbrev S1x256x512 : Shape := ⟨3, ![1, 256, 512]⟩
abbrev S256x512 : Shape := ⟨2, ![256, 512]⟩
abbrev S1x256x256 : Shape := ⟨3, ![1, 256, 256]⟩
abbrev S256x9984 : Shape := ⟨2, ![256, 9984]⟩
abbrev S256x2048 : Shape := ⟨2, ![256, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8x1024x9984, .bf16⟩
  | .hbm, ⟨1, _⟩ => ⟨S9984x2048, .fp8e4m3⟩
  | .hbm, ⟨2, _⟩ => ⟨S2048, .f32⟩
  | .hbm, ⟨3, _⟩ => ⟨S1x2048, .f32⟩
  | .hbm, ⟨4, _⟩ => ⟨S1024x8x2048, .bf16⟩
  | .hbm, ⟨5, _⟩ => ⟨S8x1024x9984, .fp8e4m3⟩
  | .hbm, ⟨6, _⟩ => ⟨S32x2x128, .f32⟩
  | .local _ .vmem, ⟨0, _⟩ => ⟨S1x256x9984, .bf16⟩
  | .local _ .vmem, ⟨1, _⟩ => ⟨S1x256x9984, .bf16⟩
  | .local _ .vmem, ⟨2, _⟩ => ⟨S9984x2048, .fp8e4m3⟩
  | .local _ .vmem, ⟨3, _⟩ => ⟨S1x2048, .f32⟩
  | .local _ .vmem, ⟨4, _⟩ => ⟨S32x8x2048, .bf16⟩
  | .local _ .vmem, ⟨5, _⟩ => ⟨S32x8x2048, .bf16⟩
  | .local _ .vmem, ⟨6, _⟩ => ⟨S1x256x9984, .fp8e4m3⟩
  | .local _ .vmem, ⟨7, _⟩ => ⟨S1x256x9984, .fp8e4m3⟩
  | .local _ .vmem, ⟨8, _⟩ => ⟨S1x2x128, .f32⟩
  | .local _ .vmem, ⟨9, _⟩ => ⟨S1x2x128, .f32⟩
  | _, _ => ⟨S8x1024x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x9984 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9984x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x8x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x9984 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x1024x9984 : Shape := ⟨3, ![8, 1024, 9984]⟩
abbrev S9984x2048 : Shape := ⟨2, ![9984, 2048]⟩
abbrev S2048 : Shape := ⟨1, ![2048]⟩
abbrev S8192x9984 : Shape := ⟨2, ![8192, 9984]⟩
abbrev S1x2048 : Shape := ⟨2, ![1, 2048]⟩
abbrev S1024x8x2048 : Shape := ⟨3, ![1024, 8, 2048]⟩
abbrev S32x2x128 : Shape := ⟨3, ![32, 2, 128]⟩
abbrev S8192 : Shape := ⟨1, ![8192]⟩
abbrev S8192x1 : Shape := ⟨2, ![8192, 1]⟩
abbrev S1x253 : Shape := ⟨2, ![1, 253]⟩
abbrev S8192x253 : Shape := ⟨2, ![8192, 253]⟩
abbrev S8192x2048 : Shape := ⟨2, ![8192, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8x1024x9984, .bf16⟩
  | .hbm, ⟨1, _⟩ => ⟨S9984x2048, .fp8e4m3⟩
  | .hbm, ⟨2, _⟩ => ⟨S2048, .f32⟩
  | .hbm, ⟨3, _⟩ => ⟨S8192x9984, .bf16⟩
  | .hbm, ⟨4, _⟩ => ⟨S1x2048, .f32⟩
  | .hbm, ⟨5, _⟩ => ⟨S1024x8x2048, .bf16⟩
  | .hbm, ⟨6, _⟩ => ⟨S8x1024x9984, .fp8e4m3⟩
  | .hbm, ⟨7, _⟩ => ⟨S32x2x128, .f32⟩
  | .local _ .vmem, ⟨0, _⟩ => ⟨S8192x9984, .bf16⟩
  | .local _ .vmem, ⟨1, _⟩ => ⟨S9984x2048, .fp8e4m3⟩
  | .local _ .vmem, ⟨2, _⟩ => ⟨S1x2048, .f32⟩
  | .local _ .vmem, ⟨3, _⟩ => ⟨S1024x8x2048, .bf16⟩
  | .local _ .vmem, ⟨4, _⟩ => ⟨S8x1024x9984, .fp8e4m3⟩
  | .local _ .vmem, ⟨5, _⟩ => ⟨S32x2x128, .f32⟩
  | _, _ => ⟨S8x1024x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x9984 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9984x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x9984 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RowMax.lean ====
module

public import Idealize.ShloMosaic.Lib.Pointwise

/-! The largest magnitude of a row, taken whole and taken in chunks of 128 columns.

The kernel walks a row of 9984 entries in 78 chunks of 128 lanes: it keeps, lane by lane, the
largest magnitude met so far, and takes the maximum over the 128 lanes at the end.  The reference
takes the maximum over the 9984 columns at once.  The two are equal. -/

@[expose] public section
noncomputable section

open Idealize.ShloMosaic Idealize.ShloMosaic.TcCoe

namespace Cert.RowMax

/-- The word a maximum starts from (the f32 word of minus infinity). -/
abbrev start : EReal := Ideal.ofBits .f32 4286578688#32

/-- The largest magnitude of a row. -/
def rowMax (f : Fin 9984 → EReal) : EReal :=
  Finset.fold max start (fun j => FloatOps.absf (F := Ideal) (φ := .f32) (f j)) Finset.univ

/-- The magnitude at lane `l` of chunk `i`. -/
def lane (f : Fin 9984 → EReal) (l : Fin 128) (i : ℕ) : EReal :=
  FloatOps.absf (F := Ideal) (φ := .f32)
    (f ⟨(128 * i + l.val) % 9984, Nat.mod_lt _ (by decide)⟩)

/-- The running maximum after chunk `n`, as the kernel nests it. -/
def chain (g : ℕ → EReal) : ℕ → EReal
  | 0 => g 0
  | n + 1 => max (chain g n) (g (n + 1))

theorem chain_le {g : ℕ → EReal} {b : EReal} :
    ∀ n, chain g n ≤ b ↔ ∀ i, i ≤ n → g i ≤ b
  | 0 => by
      constructor
      · intro h i hi
        obtain rfl : i = 0 := by omega
        exact h
      · intro h
        exact h 0 le_rfl
  | n + 1 => by
      rw [chain, max_le_iff, chain_le n]
      constructor
      · rintro ⟨h, h'⟩ i hi
        rcases Nat.lt_or_ge i (n + 1) with hlt | hge
        · exact h i (by omega)
        · obtain rfl : i = n + 1 := by omega
          exact h'
      · exact fun h => ⟨fun i hi => h i (by omega), h _ le_rfl⟩

/-- The maximum over the lanes of the running maxima is the maximum of the row. -/
theorem lanes_eq (f : Fin 9984 → EReal) :
    Finset.fold max start (fun l : Fin 128 => chain (lane f l) 77) Finset.univ = rowMax f := by
  apply le_antisymm
  · rw [Finset.fold_max_le]
    refine ⟨Finset.le_fold_max _ |>.mpr (Or.inl le_rfl), fun l _ => ?_⟩
    rw [chain_le]
    intro i _
    exact Finset.le_fold_max _ |>.mpr (Or.inr ⟨_, Finset.mem_univ _, le_rfl⟩)
  · unfold rowMax
    rw [Finset.fold_max_le]
    refine ⟨Finset.le_fold_max _ |>.mpr (Or.inl le_rfl), fun j _ => ?_⟩
    refine Finset.le_fold_max _ |>.mpr
      (Or.inr ⟨⟨j.val % 128, Nat.mod_lt _ (by decide)⟩, Finset.mem_univ _, ?_⟩)
    have h := (chain_le (g := lane f ⟨j.val % 128, Nat.mod_lt _ (by decide)⟩) 77).mp le_rfl
      (j.val / 128) (by have := j.isLt; omega)
    refine le_trans (le_of_eq ?_) h
    unfold lane
    refine congrArg (fun k => FloatOps.absf (F := Ideal) (φ := .f32) (f k)) (Fin.ext ?_)
    have := j.isLt
    show j.val = (128 * (j.val / 128) + j.val % 128) % 9984
    omega

end Cert.RowMax
-- ==== Proof.Scale.lean ====
/-
  THE POWER-OF-TWO SCALE of one row, over the extended reals.

  The kernel counts the powers of two that are at most `v` (`v` = the row's largest magnitude times the constant nearest
  1/448) and writes the count into the exponent field of a float; the reference takes the least exponent whose power of two
  exceeds `v` and exponentiates. `kerE` and `refE` are those two exponents as functions of the row's largest magnitude,
  `ker_eq_ref` says they are one function, and `scale_bits`, `inv_bits` that the exponent fields the kernel fills in denote
  the powers of two the reference computes.
-/
module

public import Idealize.ShloMosaic.Lib.Pointwise
public import proofs.«01_k».proof.Proof.RowMax

@[expose] public section

set_option maxRecDepth 16384

noncomputable section

open Idealize.ShloMosaic

namespace Cert.Scale

/-! ## Exponent fields -/

/-- A float whose only nonzero field is the exponent field `n`, `1 ≤ n ≤ 254`, is the power of two `2 ^ (n - 127)`. -/
theorem ofBits_field (n : ℕ) (h1 : 1 ≤ n) (h2 : n ≤ 254) :
    Ideal.ofBits .f32 (IntOp.shli .vector (BitVec.ofNat 32 n) 23#32) = (((2 : ℝ) ^ ((n : ℤ) - 127) : ℝ) : EReal) := by
  have key : ∀ n : Fin 255,
      ((IntOp.shli .vector (BitVec.ofNat 32 n.val) 23#32 : BitVec 32).extractLsb' 31 1 == 1#1) = false
      ∧ ((IntOp.shli .vector (BitVec.ofNat 32 n.val) 23#32 : BitVec 32).extractLsb' 23 8).toNat = n.val
      ∧ ((IntOp.shli .vector (BitVec.ofNat 32 n.val) 23#32 : BitVec 32).extractLsb' 0 23).toNat = 0 := by decide +kernel
  obtain ⟨hs, he, hm⟩ := key ⟨n, by omega⟩
  show Ideal.ieee 8 23 _ = _
  unfold Ideal.ieee
  dsimp only at hs he hm
  simp only [Nat.reduceAdd, hs, he, hm]
  rw [if_neg (by omega), if_neg (by omega)]
  refine congrArg (fun r : ℝ => (r : EReal)) ?_
  have e2 : ((2 ^ 23 + 0 : ℕ) : ℝ) = (2 : ℝ) ^ (23 : ℤ) := by norm_num
  simp only [Bool.false_eq_true, if_false, one_mul]
  rw [e2, ← zpow_add₀ (by norm_num : (2 : ℝ) ≠ 0)]
  refine congrArg (fun z : ℤ => (2 : ℝ) ^ z) ?_
  norm_num

/-- The base-2 exponential of an integer is the integer power of two. -/
theorem exp2_int (z : ℤ) : Ideal.exp2 (((z : ℝ)) : EReal) = (((2 : ℝ) ^ z : ℝ) : EReal) := by
  exact congrArg (fun r : ℝ => (r : EReal)) (Real.rpow_intCast 2 z)

/-! ## A count of powers and a least exponent -/

/-- What the kernel adds up: 1 for every exponent field from 1 to 252 for which `p` holds. -/
def counted (p : ℕ → Prop) [DecidablePred p] : BitVec 32 :=
  Finset.fold IntOp.addi 0#32 (fun x : Fin 256 => BitVec.setWidth 32 (IntOp.andi (BitVec.ofBool (decide (p x.val)))
    (IntOp.andi (IntOp.cmpi .sge (BitVec.ofNat 32 x.val) 1#32) (IntOp.cmpi .sle (BitVec.ofNat 32 x.val) 252#32)))) Finset.univ

/-- What the reference takes the least of: `k = i - 126` for every `i` with `q i`, and 126. -/
def least (q : ℕ → Prop) [DecidablePred q] : BitVec 32 :=
  Finset.fold IntOp.minsi 2147483647#32 (fun i : Fin 253 => if q i.val then IntOp.subi (BitVec.ofNat 32 i.val) 126#32 else 126#32)
    Finset.univ

/-- The kernel's mask: 1 for the fields from 1 to 252. -/
theorem term_eq : ∀ (b : Bool) (x : Fin 256), BitVec.setWidth 32 (IntOp.andi (BitVec.ofBool b)
    (IntOp.andi (IntOp.cmpi .sge (BitVec.ofNat 32 x.val) 1#32) (IntOp.cmpi .sle (BitVec.ofNat 32 x.val) 252#32)))
    = BitVec.ofNat 32 (if b = true ∧ 1 ≤ x.val ∧ x.val ≤ 252 then 1 else 0) := by decide +kernel

/-- The count depends on the fields from 1 to 252 only. -/
theorem counted_congr (p q : ℕ → Prop) [DecidablePred p] [DecidablePred q] (h : ∀ x, 1 ≤ x → x ≤ 252 → (p x ↔ q x)) :
    counted p = counted q := by
  unfold counted
  refine Finset.fold_congr fun x _ => ?_
  rw [term_eq, term_eq]
  refine congrArg (BitVec.ofNat 32) (if_congr ?_ rfl rfl)
  rw [decide_eq_true_iff, decide_eq_true_iff]
  exact ⟨fun ⟨a, b, c⟩ => ⟨(h _ b c).mp a, b, c⟩, fun ⟨a, b, c⟩ => ⟨(h _ b c).mpr a, b, c⟩⟩

/-- The least exponent depends on the first 252 tests only: the last candidate is 126, the default. -/
theorem least_congr (p q : ℕ → Prop) [DecidablePred p] [DecidablePred q] (h : ∀ i, i + 1 ≤ 252 → (p i ↔ q i)) :
    least p = least q := by
  unfold least
  refine Finset.fold_congr fun i _ => ?_
  by_cases hi : i.val + 1 ≤ 252
  · exact if_congr (h _ hi) rfl rfl
  · have h252 : i.val = 252 := by have := i.isLt; omega
    have e : (IntOp.subi (BitVec.ofNat 32 252) 126#32 : BitVec 32) = 126#32 := by decide
    rw [h252, e, ite_self, ite_self]

/-- With a threshold `n ≤ 252` (`p x` is `x ≤ n`) the kernel's count is `n`: each term is 1 or 0, -/
theorem counted_threshold (n : Fin 253) : counted (fun x => x ≤ n.val) = BitVec.ofNat 32 n.val := by
  have hn := n.isLt
  have hadd : ∀ x y : ℕ, IntOp.addi (BitVec.ofNat 32 x) (BitVec.ofNat 32 y) = BitVec.ofNat 32 (x + y) := fun x y =>
    (BitVec.ofNat_add x y).symm
  have hsum : Finset.fold (fun x y : ℕ => x + y) 0 (fun x : Fin 256 => if 1 ≤ x.val ∧ x.val ≤ n.val then 1 else 0) Finset.univ = n.val := by
    refine Eq.trans (b := ∑ x : Fin 256, if 1 ≤ x.val ∧ x.val ≤ n.val then 1 else 0) rfl ?_
    rw [Fin.sum_univ_eq_sum_range (fun x => if 1 ≤ x ∧ x ≤ n.val then 1 else 0) 256, ← Finset.sum_filter]
    have hf : Finset.filter (fun x => 1 ≤ x ∧ x ≤ n.val) (Finset.range 256) = Finset.Icc 1 n.val := by
      ext x
      simp only [Finset.mem_filter, Finset.mem_range, Finset.mem_Icc]
      omega
    rw [hf, Finset.sum_const, Nat.card_Icc, Nat.add_sub_cancel, smul_eq_mul, mul_one]
  refine Eq.trans (b := Finset.fold IntOp.addi (BitVec.ofNat 32 0)
    (fun x : Fin 256 => BitVec.ofNat 32 (if 1 ≤ x.val ∧ x.val ≤ n.val then 1 else 0)) Finset.univ) ?_ ?_
  · unfold counted
    refine Finset.fold_congr fun x _ => ?_
    rw [term_eq]
    refine congrArg (BitVec.ofNat 32) (if_congr ?_ rfl rfl)
    rw [decide_eq_true_iff]
    omega
  · rw [Finset.fold_hom (op := fun x y : ℕ => x + y) (m := BitVec.ofNat 32) (fun x y => (hadd x y).symm), hsum]

/-- and the reference's least exponent is `n - 126`: the terms are `i - 126` for `n ≤ i`, and 126. -/
theorem least_threshold (n : Fin 253) : least (fun i => ¬ i + 1 ≤ n.val) = IntOp.subi (BitVec.ofNat 32 n.val) 126#32 := by
  have key : ∀ i : Fin 253, (IntOp.subi (BitVec.ofNat 32 i.val) 126#32 : BitVec 32).toInt = (i.val : ℤ) - 126 := by decide +kernel
  have hmin : ∀ x y : BitVec 32, (IntOp.minsi x y).toInt = min x.toInt y.toInt := fun x y => by
    unfold IntOp.minsi
    simp only [BitVec.slt_iff_toInt_lt]
    split <;> omega
  have hn := n.isLt
  refine BitVec.eq_of_toInt_eq ?_
  rw [key n]
  unfold least
  rw [← Finset.fold_hom (op' := min) (m := BitVec.toInt) hmin]
  refine le_antisymm ((Finset.fold_min_le _).mpr (.inr ⟨n, Finset.mem_univ _, ?_⟩)) ((Finset.le_fold_min _).mpr ⟨?_, fun i _ => ?_⟩)
  · rw [if_pos (by omega), key n]
  · have : (2147483647#32 : BitVec 32).toInt = 2147483647 := by decide
    omega
  · have e126 : (126#32 : BitVec 32).toInt = 126 := by decide
    split
    · rw [key i]; omega
    · rw [e126]; omega

/-- A downward closed property of 1, …, 252 has a threshold. -/
theorem exists_threshold (p : ℕ → Prop) (hp : ∀ x y, x ≤ y → p y → p x) :
    ∃ n : Fin 253, ∀ x, 1 ≤ x → x ≤ 252 → (p x ↔ x ≤ n.val) := by
  classical
  by_cases h : ∃ x, 1 ≤ x ∧ x ≤ 252 ∧ ¬ p x
  · have hs := Nat.find_spec h
    have hmin := fun k => @Nat.find_min _ _ h k
    refine ⟨⟨Nat.find h - 1, by omega⟩, fun x h1 h2 => ⟨fun hx => ?_, fun hx => ?_⟩⟩
    · by_contra hlt
      exact hs.2.2 (hp _ x (by dsimp only at hlt; omega) hx)
    · by_contra hnx
      have := hmin x (by dsimp only at hx; omega)
      exact this ⟨h1, h2, hnx⟩
  · refine ⟨⟨252, by omega⟩, fun x h1 h2 => ⟨fun _ => h2, fun _ => ?_⟩⟩
    by_contra hnx
    exact h ⟨x, h1, h2, hnx⟩

/-- For a downward closed `p` some `n ≤ 252` is the count, and `n - 126` is the least exponent. -/
theorem counted_least (p : ℕ → Prop) [DecidablePred p] (hp : ∀ x y, x ≤ y → p y → p x) :
    ∃ n : Fin 253, counted p = BitVec.ofNat 32 n.val
      ∧ least (fun i => ¬ p (i + 1)) = IntOp.subi (BitVec.ofNat 32 n.val) 126#32 := by
  obtain ⟨n, hn⟩ := exists_threshold p hp
  refine ⟨n, ?_, ?_⟩
  · rw [← counted_threshold n]
    exact counted_congr _ _ hn
  · rw [← least_threshold n]
    exact least_congr _ _ fun i hi => not_congr (hn _ (by omega) hi)

/-! ## The two exponents of a row -/

/-- The float constant nearest 1/448, by which both programs multiply a row's largest magnitude. -/
abbrev c448 : EReal := Ideal.ofBits .f32 991054117#32

/-- Both programs' test "is `v` positive and finite", as a bit. -/
abbrev ordinary (v : EReal) : BitVec 1 :=
  IntOp.andi (BitVec.ofBool (decide (0 < v))) (BitVec.ofBool (decide (v < Ideal.ofBits .f32 2139095040#32)))

/-- The kernel's exponent of a row whose largest magnitude is `a`. -/
def kerE (a : EReal) : BitVec 32 :=
  if a = 0 then 0#32 else Scalar.select (ordinary (a * c448))
    (IntOp.subi (counted fun x => Ideal.ofBits .f32 (IntOp.shli .vector (BitVec.ofNat 32 x) 23#32) ≤ a * c448) 126#32) 0#32

/-- The reference's exponent of a row whose largest magnitude is `a`. -/
def refE (a : EReal) : BitVec 32 :=
  if a = 0 then 0#32 else Scalar.select (ordinary (a * c448))
    (least fun i => a * c448 < FloatOps.exp2 (F := Ideal) (φ := .f32) (FloatOps.sitofp .f32 (IntOp.subi (BitVec.ofNat 32 i) 126#32)))
    0#32

/-- The power of two the reference compares with. -/
theorem exp2_sub (i : ℕ) (hi : i ≤ 252) :
    FloatOps.exp2 (F := Ideal) (φ := .f32) (FloatOps.sitofp .f32 (IntOp.subi (BitVec.ofNat 32 i) 126#32))
      = (((2 : ℝ) ^ ((i : ℤ) - 126) : ℝ) : EReal) := by
  have key : ∀ i : Fin 253, (IntOp.subi (BitVec.ofNat 32 i.val) 126#32 : BitVec 32).toInt = (i.val : ℤ) - 126 := by decide +kernel
  have e := key ⟨i, by omega⟩
  dsimp only at e
  show Ideal.exp2 (((IntOp.subi (BitVec.ofNat 32 i) 126#32 : BitVec 32).toInt : ℝ) : EReal) = _
  rw [e]
  exact exp2_int _

/-- "The power of two of exponent field `x` is at most `v`." -/
def powLe (v : EReal) (x : ℕ) : Prop := (((2 : ℝ) ^ ((x : ℤ) - 127) : ℝ) : EReal) ≤ v

instance (v : EReal) : DecidablePred (powLe v) := Classical.decPred _

/-- Both exponents of a row are `n - 126` for one `n` between 0 and 252. -/
theorem both (a : EReal) : ∃ n : Fin 253, kerE a = IntOp.subi (BitVec.ofNat 32 n.val) 126#32
    ∧ refE a = IntOp.subi (BitVec.ofNat 32 n.val) 126#32 := by
  have e0 : (0#32 : BitVec 32) = IntOp.subi (BitVec.ofNat 32 126) 126#32 := by decide
  unfold kerE refE
  by_cases ha : a = 0
  · exact ⟨⟨126, by omega⟩, by rw [if_pos ha, e0], by rw [if_pos ha, e0]⟩
  rw [if_neg ha, if_neg ha]
  rcases BitVec.eq_zero_or_eq_one (ordinary (a * c448)) with ho | ho <;> rw [ho]
  · exact ⟨⟨126, by omega⟩, e0, e0⟩
  have sel : ∀ x y : BitVec 32, Scalar.select 1#1 x y = x := fun _ _ => rfl
  rw [sel, sel]
  obtain ⟨n, hc, hl⟩ := counted_least (powLe (a * c448)) fun x y hxy hy => le_trans (EReal.coe_le_coe_iff.mpr
    (zpow_le_zpow_right₀ (by norm_num) (by omega))) hy
  refine ⟨n, ?_, ?_⟩
  · refine congrArg (fun c => IntOp.subi c 126#32) (Eq.trans ?_ hc)
    refine counted_congr _ _ fun x h1 h2 => ?_
    rw [ofBits_field x h1 (by omega)]
    rfl
  · refine Eq.trans ?_ hl
    refine least_congr _ _ fun i hi => ?_
    rw [exp2_sub i (by omega)]
    unfold powLe
    rw [not_le]
    have e : (((i + 1 : ℕ) : ℤ) - 127) = (i : ℤ) - 126 := by push_cast; ring
    rw [e]

/-- The kernel's exponent is the reference's. -/
theorem ker_eq_ref (a : EReal) : kerE a = refE a := by
  obtain ⟨n, hk, hr⟩ := both a
  rw [hk, hr]

/-- The reference's scale of a row: two to the exponent, -/
def scale (a : EReal) : EReal := FloatOps.exp2 (F := Ideal) (φ := .f32) (FloatOps.sitofp .f32 (refE a))

/-- and its inverse: two to minus the exponent. -/
def inv (a : EReal) : EReal := FloatOps.exp2 (F := Ideal) (φ := .f32) ((0 : EReal) - FloatOps.sitofp (F := Ideal) .f32 (refE a))

/-- The float the kernel builds from the exponent is the scale, -/
theorem scale_bits (a : EReal) :
    Ideal.ofBits .f32 (IntOp.shli .vector (IntOp.addi (kerE a) 127#32) 23#32) = scale a := by
  obtain ⟨n, hk, hr⟩ := both a
  have key : ∀ n : Fin 253, (IntOp.addi (IntOp.subi (BitVec.ofNat 32 n.val) 126#32) 127#32 : BitVec 32) = BitVec.ofNat 32 (n.val + 1) := by
    decide +kernel
  have hn := n.isLt
  unfold scale
  rw [hk, hr, key n, ofBits_field _ (by omega) (by omega), exp2_sub _ (by omega)]
  refine congrArg (fun z : ℤ => (((2 : ℝ) ^ z : ℝ) : EReal)) ?_
  push_cast
  ring

/-- and the float it builds from minus the exponent is the inverse scale. -/
theorem inv_bits (a : EReal) :
    Ideal.ofBits .f32 (IntOp.shli .vector (IntOp.addi (IntOp.subi 0#32 (kerE a)) 127#32) 23#32) = inv a := by
  obtain ⟨n, hk, hr⟩ := both a
  have key : ∀ n : Fin 253, (IntOp.addi (IntOp.subi 0#32 (IntOp.subi (BitVec.ofNat 32 n.val) 126#32)) 127#32 : BitVec 32)
        = BitVec.ofNat 32 (253 - n.val)
      ∧ (IntOp.subi (BitVec.ofNat 32 n.val) 126#32 : BitVec 32).toInt = (n.val : ℤ) - 126 := by
    decide +kernel
  have hn := n.isLt
  have e : (0 : EReal) - FloatOps.sitofp (F := Ideal) .f32 (refE a) = (((126 - (n.val : ℤ) : ℤ) : ℝ) : EReal) := by
    rw [hr]
    show (0 : EReal) - (((IntOp.subi (BitVec.ofNat 32 n.val) 126#32 : BitVec 32).toInt : ℝ) : EReal) = _
    rw [(key n).2, zero_sub, ← EReal.coe_neg]
    refine congrArg (fun r : ℝ => (r : EReal)) ?_
    push_cast
    ring
  unfold inv
  rw [e, hk, (key n).1, ofBits_field _ (by omega) (by omega)]
  refine Eq.trans ?_ (exp2_int _).symm
  refine congrArg (fun z : ℤ => (((2 : ℝ) ^ z : ℝ) : EReal)) ?_
  omega

/-- A value times an inverse scale, clipped to ±448. -/
def clip (v s : EReal) : EReal :=
  min (Ideal.ofBits .f32 1138753536#32) (max (Ideal.ofBits .f32 3286237184#32) (v * s))

/-- The code of column `k` of the row `f`. -/
def code (f : Fin 9984 → EReal) (k : Fin 9984) : EReal :=
  clip (f k) (inv (RowMax.rowMax f))

end Cert.Scale

end
-- ==== Proof.Words.lean ====
module

public import proofs.«01_k».proof.Proof.Gen.KernelIdeal.Frame
public import proofs.«01_k».proof.Proof.Scale
public import proofs.«01_k».proof.Proof.RowMax
public import Idealize.ShloMosaic.Lib.Pipeline.ValueKit
public import Idealize.ShloMosaic.Lib.Pointwise

/-! The kernel's per-row words at one block of 256 rows: the exponent of a row's scale, the scale
and its inverse, each as a function of the row's largest magnitude. -/

@[expose] public section
set_option maxRecDepth 16384
noncomputable section

open Idealize.ShloMosaic Idealize.ShloMosaic.TcCoe Idealize.SL.Sem

namespace Cert.KernelIdeal.Words
open Cert.KernelIdeal Cert.KernelIdeal.Gen

/-- Row `r` of a block of 256 rows. -/
abbrev row (x : FVec Ideal S1x256x9984 .bf16) (r : Fin 256) : Fin 9984 → EReal :=
  fun j => x (ix3 0 r j)

theorem max_congr {a b c d : EReal} (h : a = b) (h' : c = d) : max a c = max b d := by
  rw [h, h']

/-- A load's entry is the lane of its chunk. -/
theorem read (x : FVec Ideal S1x256x9984 .bf16) (r : Fin 256) (l : Fin 128) (i n : ℕ)
    (hn : n < 9984) (h : n = 128 * i + l.val) :
    FloatOps.absf (F := Ideal) (φ := .f32) (x (ix3 0 r ⟨n, hn⟩)) = RowMax.lane (row x r) l i := by
  subst h
  unfold RowMax.lane row
  refine congrArg (fun k => FloatOps.absf (F := Ideal) (φ := .f32) (x (ix3 0 r k))) (Fin.ext ?_)
  exact (Nat.mod_eq_of_lt hn).symm

variable (c : Dev nD) (arg1 : Memref sig .tc .vmem S1x256x9984 .bf16) (harg1 : arg1.IsWhole)
  (x : FVec Ideal S1x256x9984 .bf16) (r : Fin 256)

/-- The exponent the kernel counts out for row `r`. -/
theorem exponent :
    kernelRun0_A.sl.r_13 (F := Ideal) c arg1 harg1 x (ix2 r 0)
      = Scale.kerE (RowMax.rowMax (row x r)) := by
  frame_out
  pointwise [k0_pay2, k0_pay3, k0_pay4, k0_pay5, k0_pay6, k0_pay7, k0_pay8, k0_pay9, k0_pay10,
    k0_pay11, k0_pay12, k0_pay13]
  refine (congrArg Scale.kerE ?_ : Scale.kerE _ = Scale.kerE _)
  rw [← RowMax.lanes_eq]
  refine congrArg (fun g => Finset.fold max RowMax.start g Finset.univ) (funext fun l => ?_)
  simp only [RowMax.chain]
  iterate 77 refine max_congr ?_ (read x r l _ _ _ (by omega))
  exact read x r l _ _ _ (by omega)

/-- The kernel's scale of row `r`. -/
theorem scale :
    kernelRun0_A.sl.r_14 (F := Ideal) c arg1 harg1 x (ix2 r 0)
      = Scale.scale (RowMax.rowMax (row x r)) := by
  rw [← Scale.scale_bits, ← exponent c arg1 harg1 x r]
  unfold kernelRun0_A.sl.r_14 kernelRun0_A.sl.r_13
  pointwise [k0_pay14]

/-- The kernel's inverse scale of row `r`. -/
theorem inverse :
    kernelRun0_A.sl.r_15 (F := Ideal) c arg1 harg1 x (ix2 r 0)
      = Scale.inv (RowMax.rowMax (row x r)) := by
  rw [← Scale.inv_bits, ← exponent c arg1 harg1 x r]
  unfold kernelRun0_A.sl.r_15
  pointwise [k0_pay15]

end Cert.KernelIdeal.Words
-- ==== Proof.Codes.lean ====
module

public import proofs.«01_k».proof.Proof.Words
public import Idealize.ShloMosaic.Lib.Pipeline.ValueKit
public import Idealize.ShloMosaic.Lib.Pointwise

/-! The kernel's codes at one block of 256 rows: an entry of the block times its row's inverse
scale, clipped to ±448.  The block is written in twenty column tiles; each is the same function of
the entries it holds. -/

@[expose] public section
set_option maxRecDepth 16384
noncomputable section

open Idealize.ShloMosaic Idealize.ShloMosaic.TcCoe Idealize.SL.Sem

namespace Cert.KernelIdeal.Codes
open Cert.KernelIdeal Cert.KernelIdeal.Gen

/-- An entry times its row's inverse scale, clipped, is the code of the row at its column. -/
theorem entry (x : FVec Ideal S1x256x9984 .bf16) (s : FVec Ideal S256x1 .f32)
    (hs : ∀ r, s (ix2 r 0) = Scale.inv (RowMax.rowMax (Words.row x r)))
    (r q : Fin 256) (k : Fin 9984) {n : ℕ} (hn : n < 9984)
    (hr : r.val = q.val) (hk : k.val = n) :
    Scale.clip (x (ix3 0 q ⟨n, hn⟩)) (s (ix2 q 0)) = Scale.code (Words.row x r) k := by
  obtain rfl : r = q := Fin.ext hr
  subst hk
  rw [hs r]
  rfl

/-- The same with the inverse scale spelled from the exponent. -/
theorem entry_word (x : FVec Ideal S1x256x9984 .bf16) (e : IVec S256x1 32)
    (he : ∀ r, e (ix2 r 0) = Scale.kerE (RowMax.rowMax (Words.row x r)))
    (r q : Fin 256) (k : Fin 9984) {n : ℕ} (hn : n < 9984)
    (hr : r.val = q.val) (hk : k.val = n) :
    Scale.clip (x (ix3 0 q ⟨n, hn⟩)) (Ideal.ofBits .f32 (IntOp.shli .vector
      (IntOp.addi (IntOp.subi 0#32 (e (ix2 q 0))) 127#32) 23#32)) = Scale.code (Words.row x r) k := by
  obtain rfl : r = q := Fin.ext hr
  subst hk
  rw [he r, Scale.inv_bits]
  rfl

/-- The block of codes, entry by entry. -/
theorem tiles (c : Dev nD) (arg1 : Memref sig .tc .vmem S1x256x9984 .bf16) (harg1 : arg1.IsWhole)
    (x : FVec Ideal S1x256x9984 .bf16) (y : S1x256x9984.Idx) :
    View.canon (kernelRun0_A.sl.H4_20 (F := Ideal) c arg1 harg1 x) y
      = Scale.code (Words.row x (y 1)) (y 2) := by
  have he := Words.exponent c arg1 harg1 x
  have hi := Words.inverse c arg1 harg1 x
  have hc := View.cover_of_tiledBy (kernelRun0_A.sl.H4_20 (F := Ideal) c arg1 harg1 x)
    ![1, 256, 256] (by sl_kernel_rfl) y
  (idx_vars y)
  unfold kernelRun0_A.sl.H4_20 kernelRun0_A.sl.r_16 kernelRun0_A.sl.r_17 kernelRun0_A.sl.r_18
    kernelRun0_A.sl.r_19 kernelRun0_A.sl.r_20 kernelRun0_A.sl.r_21 kernelRun0_A.sl.cst_182 at hc ⊢
  simp (disch := decide) only [View.readAt_eq_ld, Memref.IsWhole.read_unread] at hc ⊢
  generalize kernelRun0_A.sl.r_13 (F := Ideal) c arg1 harg1 x = e at he hc ⊢
  generalize kernelRun0_A.sl.r_15 (F := Ideal) c arg1 harg1 x = s at hi hc ⊢
  canon_tiles q h using hc
  all_goals
    clear hc
    (idx_vars q)
    pointwise [k0_pay15, k0_pay19, k0_pay20, k0_pay21, k0_pay22, k0_pay23, k0_pay24, k0_pay25,
      k0_pay26, k0_pay27, k0_pay28, k0_pay29, k0_pay30, k0_pay31, k0_pay32, k0_pay33,
      k0_pay34, k0_pay35, k0_pay36, k0_pay37, k0_pay38, k0_pay39, k0_pay40, k0_pay41,
      k0_pay42, k0_pay43, k0_pay44, k0_pay45]
    first
      | exact entry x s hi _ _ _ _ h1 h2
      | exact entry_word x e he _ _ _ _ h1 h2

end Cert.KernelIdeal.Codes
-- ==== Proof.Target.lean ====
module

public import proofs.«01_k».proof.Proof.Scale

/-! The function both programs compute, row by row.

A row of 9984 entries is quantised: its codes are `Scale.code` and its scale is the power of two
`Scale.scale` of its largest magnitude.  The codes are multiplied into a weight column, the sum is
scaled by the row's scale and the column's, and passed through the tanh form of gelu. -/

@[expose] public section
noncomputable section

open Idealize.ShloMosaic Idealize.ShloMosaic.TcCoe

namespace Cert.Target

/-- The tanh form of gelu. -/
def gelu (s : EReal) : EReal :=
  s * (Ideal.ofBits .f32 1056964608#32 * (1 + Ideal.tanh (Ideal.ofBits .f32 1061962282#32 *
    (s + Ideal.ofBits .f32 1027024659#32 * (s * (s * s))))))

/-- The scale of the row `f`. -/
def rowScale (f : Fin 9984 → EReal) : EReal := Scale.scale (RowMax.rowMax f)

/-- The row `f` against the weight column `w` with scale `b`. -/
def output (f w : Fin 9984 → EReal) (b : EReal) : EReal :=
  gelu ((∑ k, Scale.code f k * w k) * rowScale f * b)

/-- Row `R` of the 8192 rows of `x`, which lie in 8 batches of 1024. -/
def rowOf (x : Fin 8 → Fin 1024 → Fin 9984 → EReal) (R : ℕ) : Fin 9984 → EReal :=
  fun k => x ⟨R / 1024 % 8, Nat.mod_lt _ (by decide)⟩ ⟨R % 1024, Nat.mod_lt _ (by decide)⟩ k

/-- The outputs: row `8 a + b` against column `l`. -/
def outputs (x : Fin 8 → Fin 1024 → Fin 9984 → EReal) (w : Fin 9984 → Fin 2048 → EReal)
    (b : Fin 2048 → EReal) (p : Fin 1024) (q : Fin 8) (l : Fin 2048) : EReal :=
  output (rowOf x (p.val * 8 + q.val)) (fun k => w k l) (b l)

/-- The codes. -/
def codes (x : Fin 8 → Fin 1024 → Fin 9984 → EReal) (a : Fin 8) (b : Fin 1024)
    (k : Fin 9984) : EReal :=
  Scale.code (x a b) k

/-- The scales: 32 blocks of two rows of 128. -/
def scales (x : Fin 8 → Fin 1024 → Fin 9984 → EReal) (t : Fin 32) (a : Fin 2)
    (l : Fin 128) : EReal :=
  rowScale (rowOf x (t.val * 256 + a.val * 128 + l.val))

end Cert.Target
-- ==== Proof.Blocks.lean ====
module

public import proofs.«01_k».proof.Proof.Codes
public import proofs.«01_k».proof.Proof.Target
public import Idealize.ShloMosaic.Lib.Pipeline.ValueKit
public import Idealize.ShloMosaic.Lib.Pointwise

/-! What the kernel leaves in its three output blocks at one grid point, entry by entry. -/

@[expose] public section
set_option maxRecDepth 16384
noncomputable section

open Idealize.ShloMosaic Idealize.ShloMosaic.TcCoe Idealize.SL.Sem

namespace Cert.KernelIdeal.Blocks
open Cert.KernelIdeal Cert.KernelIdeal.Gen

variable (m : (ℓ : Loc nD τ sig) → Buf (Elt Ideal) ℓ)

/-- The block of `x` at a grid point. -/
abbrev X (c : Dev nD) (t : Fin cfg0.N) : FVec Ideal S1x256x9984 .bf16 := iblk m c 0 t
/-- The block of weight codes at a grid point. -/
abbrev W (c : Dev nD) (t : Fin cfg0.N) : FVec Ideal S9984x2048 .fp8e4m3 := iblk m c 1 t
/-- The block of weight scales at a grid point. -/
abbrev B (c : Dev nD) (t : Fin cfg0.N) : FVec Ideal S1x2048 .f32 := iblk m c 2 t

/-- The block of codes. -/
theorem codes (c : Dev nD) (t : Fin cfg0.N) (y : S1x256x9984.Idx) :
    (outsAt0 m c t).2.1 y = Scale.code (Words.row (X m c t) (y 1)) (y 2) := by
  unfold outsAt0
  dsimp only
  unfold out0_A_4
  simp only [View.read_writes_junk_eq_canon]
  unfold kernelRun0_A
  dsimp only
  exact Codes.tiles c (ms0_0 t) _ (X m c t) y

/-- A stored row of scales reads the scale of the row it stands for. -/
theorem scale_at (s : FVec Ideal S256x1 .f32) (x : FVec Ideal S1x256x9984 .bf16)
    (hs : ∀ r, s (ix2 r 0) = Target.rowScale (Words.row x r)) (r q : Fin 256)
    (h : r.val = q.val) :
    s (ix2 r 0) = Target.rowScale (Words.row x q) := by
  obtain rfl : r = q := Fin.ext h
  exact hs r

/-- The block of scales: two rows of 128. -/
theorem scales (c : Dev nD) (t : Fin cfg0.N) (a : Fin 2) (l : Fin 128) :
    (outsAt0 m c t).2.2 (ix3 0 a l)
      = Target.rowScale (Words.row (X m c t) ⟨128 * a.val + l.val, by omega⟩) := by
  have hs := Words.scale c (ms0_0 t) (hs0_0 t) (X m c t)
  unfold outsAt0
  dsimp only
  unfold out0_A_5
  simp only [View.read_writes_junk_eq_canon]
  unfold kernelRun0_A
  dsimp only
  generalize kernelRun0_A.sl.r_14 (F := Ideal) c (ms0_0 t) (hs0_0 t) (iblk m c 0 t) = s at hs ⊢
  canon_tiles q h
  all_goals
    (idx_vars q)
    pointwise [k0_pay16, k0_pay17, k0_pay18]
    refine scale_at s (X m c t) hs _ _ ?_
    simp only at h0 h1 h2 ⊢
    omega

/-- The product read at an index: codes against a weight column, scaled, through gelu. -/
theorem product (v : FVec Ideal S1x256x9984 .fp8e4m3) (w : FVec Ideal S9984x2048 .fp8e4m3)
    (s : FVec Ideal S256x1 .f32) (b : FVec Ideal S1x2048 .f32)
    (p : Fin 32) (q : Fin 8) (l : Fin 2048) :
    k0_pay1 (k0_pay46 v w) (k0_pay47 s) b (ix3 p q l)
      = Target.gelu ((∑ k, v (ix3 0 ⟨p.val * 8 + q.val, by omega⟩ k) * w (ix2 k l))
          * s (ix2 ⟨p.val * 8 + q.val, by omega⟩ 0) * b (ix2 0 l)) := by
  pointwise [k0_pay1, k0_pay46, k0_pay47]
  rfl

/-- A code depends on its row and column alone. -/
theorem code_congr (x : FVec Ideal S1x256x9984 .bf16) (r r' : Fin 256) (k k' : Fin 9984)
    (hr : r.val = r'.val) (hk : k.val = k'.val) :
    Scale.code (Words.row x r) k = Scale.code (Words.row x r') k' := by
  rw [Fin.ext hr, Fin.ext hk]

/-- The product when the left operand holds the codes of a block and the scales are its rows'. -/
theorem product_codes (v : FVec Ideal S1x256x9984 .fp8e4m3) (w : FVec Ideal S9984x2048 .fp8e4m3)
    (s : FVec Ideal S256x1 .f32) (b : FVec Ideal S1x2048 .f32) (x : FVec Ideal S1x256x9984 .bf16)
    (hv : ∀ r k, v (ix3 0 r k) = Scale.code (Words.row x r) k)
    (hs : ∀ r, s (ix2 r 0) = Target.rowScale (Words.row x r))
    (p : Fin 32) (q : Fin 8) (l : Fin 2048) :
    k0_pay1 (k0_pay46 v w) (k0_pay47 s) b (ix3 p q l)
      = Target.output (Words.row x ⟨p.val * 8 + q.val, by omega⟩)
          (fun k => w (ix2 k l)) (b (ix2 0 l)) := by
  rw [product, hs]
  simp only [hv]
  rfl

/-- The block of outputs. -/
theorem outputs (c : Dev nD) (t : Fin cfg0.N) (p : Fin 32) (q : Fin 8) (l : Fin 2048) :
    (outsAt0 m c t).1 (ix3 p q l)
      = Target.output (Words.row (X m c t) ⟨p.val * 8 + q.val, by omega⟩)
          (fun k => W m c t (ix2 k l)) (B m c t (ix2 0 l)) := by
  have hs := Words.scale c (ms0_0 t) (hs0_0 t) (X m c t)
  have ht := Codes.tiles c (ms0_0 t) (hs0_0 t) (X m c t)
  unfold outsAt0
  dsimp only
  unfold out0_A_3
  simp only [View.read_writes_junk_eq_canon]
  unfold kernelRun0_A
  dsimp only
  unfold kernelRun0_A.sl.r_22 kernelRun0_A.sl.r_23 kernelRun0_A.sl.v629
  simp (disch := decide) only [View.canon_cons_unit_lit', View.readAt_eq_ld, View.ld_unit_lit',
    Memref.IsWhole.read_unread, View.readCov_eq_canon']
  refine product_codes _ _ _ _ (X m c t) (fun r k => ?_) hs p q l
  refine (ht _).trans (code_congr (X m c t) _ _ _ _ ?_ ?_)
  · rw [Rect.idx_unit_val]
    exact Nat.zero_add _
  · rw [Rect.idx_unit_val]
    exact Nat.zero_add _

end Cert.KernelIdeal.Blocks
-- ==== Proof.Arrays.lean ====
module

public import proofs.«01_k».proof.Proof.Blocks
public import Idealize.ShloMosaic.Lib.Pipeline.ValueKit
public import Idealize.ShloMosaic.Lib.Pointwise

/-! What the kernel's three result arrays hold after the run, entry by entry. -/

@[expose] public section
set_option maxRecDepth 16384
noncomputable section

open Idealize.ShloMosaic Idealize.ShloMosaic.TcCoe Idealize.SL.Sem
open Idealize.ShloMosaic.Pipeline (Dat)

namespace Cert.KernelIdeal.Arrays
open Cert.KernelIdeal Cert.KernelIdeal.Gen

variable (m : (ℓ : Loc nD τ sig) → Buf (Elt Ideal) ℓ)

/-- The argument `x`. -/
abbrev x (c : Dev nD) : Fin 8 → Fin 1024 → Fin 9984 → EReal := fun a b k =>
  (show FVec Ideal S8x1024x9984 .bf16 from m ((c : Thread nD τ).loc main_arg0)) (ix3 a b k)
/-- The argument of weight codes. -/
abbrev w (c : Dev nD) : Fin 9984 → Fin 2048 → EReal := fun k l =>
  (show FVec Ideal S9984x2048 .fp8e4m3 from m ((c : Thread nD τ).loc main_arg1)) (ix2 k l)
/-- The argument of weight scales. -/
abbrev b (c : Dev nD) : Fin 2048 → EReal := fun l =>
  (show FVec Ideal S2048 .f32 from m ((c : Thread nD τ).loc main_arg2)) (ix1 l)

/-- The blocks' places. -/
theorem idx : ∀ t : Fin cfg0.N,
    win0_0.index t = ![t.val / 4, t.val % 4, 0] ∧ win0_1.index t = ![0, 0]
      ∧ win0_2.index t = ![0, 0] ∧ win0_3.index t = ![t.val, 0, 0]
      ∧ win0_4.index t = ![t.val / 4, t.val % 4, 0] ∧ win0_5.index t = ![t.val, 0, 0] :=
  (by decide +kernel : ∀ t : Fin grid0.N, _)

theorem N_eq : cfg0.N = 32 := rfl

theorem row_eq (c : Dev nD) (t : Fin cfg0.N) (r : Fin 256) :
    Words.row (Blocks.X m c t) r = Target.rowOf (x m c) (t.val * 256 + r.val) := by
  have ht : t.val < 32 := t.isLt
  funext k
  unfold Words.row Blocks.X Target.rowOf x
  blk_ext [iblk, V, idx t]

theorem w_eq (c : Dev nD) (t : Fin cfg0.N) (k : Fin 9984) (l : Fin 2048) :
    Blocks.W m c t (ix2 k l) = w m c k l := by
  unfold Blocks.W w
  blk_ext [iblk, V, idx t]

/-- A vector reshaped to one row reads at its column. -/
theorem unreshape (g : FVec Ideal S2048 .f32) (l : Fin 2048) :
    shapeCast S1x2048 g shapeCasts_S2048_S1x2048 (ix2 0 l) = g (ix1 l) := by
  pointwise

theorem b_eq (c : Dev nD) (t : Fin cfg0.N) (l : Fin 2048) :
    Blocks.B m c t (ix2 0 l) = b m c l := by
  unfold Blocks.B b
  blk_simp [iblk]
  entry_read
  rw [show ((win0_2.blk t).view.emb (ix2 0 l)) = (ix2 0 l : S1x2048.Idx) by blk_ext [idx t]]
  exact unreshape _ l

/-- A code at block index `y`. -/
theorem code_point (c : Dev nD) (t : Fin cfg0.N) (y : S1x256x9984.Idx)
    (a : Fin 8) (p : Fin 1024) (k : Fin 9984) (ha : a.val = t.val / 4)
    (hp : p.val = t.val % 4 * 256 + (y 1).val) (hk : k.val = (y 2).val) :
    (outsAt0 m c t).2.1 y = Target.codes (x m c) a p k := by
  have ht : t.val < 32 := t.isLt
  (idx_vars y)
  refine (show _ = Scale.code (Words.row (Blocks.X m c t) y1) y2 from
    Blocks.codes m c t (ix3 y0 y1 y2)).trans ?_
  rw [row_eq]
  obtain rfl : k = y2 := Fin.ext hk
  unfold Target.codes Target.rowOf
  refine congrArg (fun f => Scale.code f k) ?_
  funext j
  refine congrArg₂ (fun u v => x m c u v j) (Fin.ext ?_) (Fin.ext ?_)
  · have : y1.val < 256 := y1.isLt
    show (t.val * 256 + y1.val) / 1024 % 8 = a.val
    omega
  · have : y1.val < 256 := y1.isLt
    have hp : p.val = t.val % 4 * 256 + y1.val := hp
    show (t.val * 256 + y1.val) % 1024 = p.val
    omega

/-- A scale at block index `y`. -/
theorem scale_point (c : Dev nD) (t : Fin cfg0.N) (y : S1x2x128.Idx)
    (u : Fin 32) (a : Fin 2) (l : Fin 128) (hu : u.val = t.val)
    (ha : a.val = (y 1).val) (hl : l.val = (y 2).val) :
    (outsAt0 m c t).2.2 y = Target.scales (x m c) u a l := by
  (idx_vars y)
  obtain rfl : y0 = 0 := Subsingleton.elim _ _
  rw [Blocks.scales, row_eq]
  obtain rfl : a = y1 := Fin.ext ha
  obtain rfl : l = y2 := Fin.ext hl
  unfold Target.scales
  refine congrArg (fun n => Target.rowScale (Target.rowOf (x m c) n)) ?_
  show t.val * 256 + (128 * a.val + l.val) = u.val * 256 + a.val * 128 + l.val
  omega

/-- An output at block index `y`. -/
theorem output_point (c : Dev nD) (t : Fin cfg0.N) (y : S32x8x2048.Idx)
    (u : Fin 1024) (q : Fin 8) (l : Fin 2048) (hu : u.val = t.val * 32 + (y 0).val)
    (hq : q.val = (y 1).val) (hl : l.val = (y 2).val) :
    (outsAt0 m c t).1 y = Target.outputs (x m c) (w m c) (b m c) u q l := by
  (idx_vars y)
  have hu : u.val = t.val * 32 + y0.val := hu
  rw [Blocks.outputs, row_eq, b_eq]
  simp only [w_eq]
  obtain rfl : q = y1 := Fin.ext hq
  obtain rfl : l = y2 := Fin.ext hl
  unfold Target.outputs
  refine congrArg (fun n => Target.output (Target.rowOf (x m c) n) (fun k => w m c k l) (b m c l)) ?_
  show t.val * 256 + (y0.val * 8 + q.val) = u.val * 8 + q.val
  omega

/-- The array of codes. -/
theorem codes (c : Dev nD) : (dats m 0 c).arrAt 4 cfg0.N
    = fun i => Target.codes (x m c) (i 0) (i 1) (i 2) := by
  refine (dats m 0 c).arrAt_eq_of_covers 4 _ (by decide +kernel) fun t _ y => ?_
  blk_simp
  rw [after0_4]
  exact code_point m c t y _ _ _ (by blk_simp [idx t]) (by blk_simp [idx t]) (by blk_simp [idx t])

/-- The array of scales. -/
theorem scales (c : Dev nD) : (dats m 0 c).arrAt 5 cfg0.N
    = fun i => Target.scales (x m c) (i 0) (i 1) (i 2) := by
  refine (dats m 0 c).arrAt_eq_of_covers 5 _ (by decide +kernel) fun t _ y => ?_
  blk_simp
  rw [after0_5]
  exact scale_point m c t y _ _ _ (by blk_simp [idx t]) (by blk_simp [idx t]) (by blk_simp [idx t])

/-- The array of outputs. -/
theorem outputs (c : Dev nD) : (dats m 0 c).arrAt 3 cfg0.N
    = fun i => Target.outputs (x m c) (w m c) (b m c) (i 0) (i 1) (i 2) := by
  refine (dats m 0 c).arrAt_eq_of_covers 3 _ (by decide +kernel) fun t _ y => ?_
  blk_simp
  rw [after0_3]
  exact output_point m c t y _ _ _ (by blk_simp [idx t]) (by blk_simp [idx t]) (by blk_simp [idx t])

end Cert.KernelIdeal.Arrays
-- ==== Proof.RefBlocks.lean ====
module

public import proofs.«01_k».proof.Proof.Gen.ReferenceIdeal.Frame
public import proofs.«01_k».proof.Proof.Target
public import Idealize.ShloMosaic.Lib.Pipeline.ValueKit
public import Idealize.ShloMosaic.Lib.Pointwise

/-! The reference's words and results, entry by entry.  The reference holds all 8192 rows at once. -/

@[expose] public section
set_option maxRecDepth 16384
noncomputable section

open Idealize.ShloMosaic Idealize.ShloMosaic.TcCoe Idealize.SL.Sem

namespace Cert.ReferenceIdeal.Blocks
open Cert.ReferenceIdeal Cert.ReferenceIdeal.Gen

/-- Row `r` of the 8192 rows. -/
abbrev row (x : FVec Ideal S8192x9984 .bf16) (r : Fin 8192) : Fin 9984 → EReal :=
  fun k => x (ix2 r k)

/-- The largest magnitude of each row. -/
def amax (x : FVec Ideal S8192x9984 .bf16) : FVec Ideal S8192x1 .f32 :=
  shapeCast S8192x1 (multiReduction .maximumf [1] S8192 (absf (k0_pay4 (F := Ideal) x))
    0xFF800000#32 reduces_S8192x9984_S8192 (.inl rfl) rfl) shapeCasts_S8192_S8192x1

/-- The exponents tried, from -126 to 126. -/
def tried : IVec S1x253 32 :=
  subi (iota .tc S1x253 32 [1] iota_S1x253_d1_w32) (broadcast S1x253 126#32)

/-- For each row the least of the exponents `u` whose power of two exceeds `v`. -/
def least (u : IVec S1x253 32) (v : FVec Ideal S8192x1 .f32) : IVec S8192x1 32 :=
  shapeCast S8192x1 (multiReductionI .minsi [1] S8192
    (select (cmpf .olt (broadcastTo S8192x253 v broadcasts_S8192x1_S8192x253)
        (broadcastTo S8192x253 (exp2 (sitofp .f32 u)) broadcasts_S1x253_S8192x253))
      (broadcastTo S8192x253 (shapeCast S1x253 u shapeCasts_S1x253_S1x253)
        broadcasts_S1x253_S8192x253)
      (broadcast S8192x253 126#32)) 2147483647#32 reduces_S8192x253_S8192 rfl)
    shapeCasts_S8192_S8192x1

/-- The exponent kept: zero for a row of zeros and where `v` is not an ordinary value. -/
def kept (a v : FVec Ideal S8192x1 .f32) (k : IVec S8192x1 32) : FVec Ideal S8192x1 .f32 :=
  sitofp (F := Ideal) .f32
    (select (cmpf .oeq a (broadcast S8192x1 (Scalar.ofBits .f32 0x00000000#32)))
      (broadcast S8192x1 0#32)
      (select (andi (cmpf .ogt v (broadcast S8192x1 (Scalar.ofBits .f32 0x00000000#32)))
          (cmpf .olt v (broadcast S8192x1 (Scalar.ofBits .f32 0x7F800000#32))))
        k (broadcast S8192x1 0#32)))

/-- Each row's largest magnitude over 448. -/
def scaled (a : FVec Ideal S8192x1 .f32) : FVec Ideal S8192x1 .f32 :=
  mulf a (broadcast S8192x1 (Scalar.ofBits .f32 0x3B124925#32))

/-- The reference's exponents in these steps. -/
theorem pay5_eq (x : FVec Ideal S8192x9984 .bf16) :
    k0_pay5 (F := Ideal) x
      = kept (amax x) (scaled (amax x)) (least tried (scaled (amax x))) := rfl

theorem amax_at (x : FVec Ideal S8192x9984 .bf16) (r : Fin 8192) :
    amax x (ix2 r 0) = RowMax.rowMax (row x r) := by
  pointwise [amax, k0_pay4]
  rfl

theorem tried_at (k : Fin 253) :
    tried (ix2 0 k) = IntOp.subi (BitVec.ofNat 32 k.val) 126#32 := by
  pointwise [tried]

theorem scaled_at (a : FVec Ideal S8192x1 .f32) (r : Fin 8192) :
    scaled a (ix2 r 0) = a (ix2 r 0) * Scale.c448 := by
  pointwise [scaled]

theorem least_at (u : IVec S1x253 32) (v : FVec Ideal S8192x1 .f32) (r : Fin 8192) :
    least u v (ix2 r 0) = Finset.fold IntOp.minsi 2147483647#32 (fun k =>
      if v (ix2 r 0) < FloatOps.exp2 (F := Ideal) (φ := .f32) (FloatOps.sitofp .f32 (u (ix2 0 k)))
        then u (ix2 0 k) else 126#32) Finset.univ := by
  pointwise [least]

theorem kept_at (a v : FVec Ideal S8192x1 .f32) (k : IVec S8192x1 32) (r : Fin 8192) :
    kept a v k (ix2 r 0) = FloatOps.sitofp (F := Ideal) .f32
      (if a (ix2 r 0) = 0 then 0#32 else Scalar.select
        (IntOp.andi (BitVec.ofBool (decide (0 < v (ix2 r 0))))
          (BitVec.ofBool (decide (v (ix2 r 0) < Ideal.ofBits .f32 2139095040#32))))
        (k (ix2 r 0)) 0#32) := by
  pointwise [kept]

/-- The exponent of row `r`. -/
theorem exponent (x : FVec Ideal S8192x9984 .bf16) (r : Fin 8192) :
    k0_pay5 (F := Ideal) x (ix2 r 0)
      = FloatOps.sitofp (F := Ideal) .f32 (Scale.refE (RowMax.rowMax (row x r))) := by
  rw [pay5_eq, kept_at, least_at, scaled_at, amax_at]
  simp only [tried_at]
  rfl

/-- The scale of row `r`. -/
theorem scale (x : FVec Ideal S8192x9984 .bf16) (r : Fin 8192) :
    k0_pay6 (F := Ideal) x (ix2 r 0) = Target.rowScale (row x r) := by
  unfold Target.rowScale Scale.scale
  rw [← exponent]
  pointwise [k0_pay6]

/-- The codes of row `r`. -/
theorem code (x : FVec Ideal S8192x9984 .bf16) (r : Fin 8192) (k : Fin 9984) :
    k0_pay7 (F := Ideal) x (ix2 r k) = Scale.code (row x r) k := by
  unfold Scale.code Scale.inv
  rw [← exponent]
  pointwise [k0_pay7, k0_pay4]
  rfl

/-- The array of codes: the rows in 8 batches of 1024. -/
theorem codes (x : FVec Ideal S8192x9984 .bf16) (a : Fin 8) (b : Fin 1024) (k : Fin 9984) :
    k0_pay2 (F := Ideal) (k0_pay7 x) (ix3 a b k) = Scale.code (row x ⟨a.val * 1024 + b.val, by omega⟩) k := by
  rw [← code]
  pointwise [k0_pay2]

/-- The array of scales: the rows in 32 blocks of two rows of 128. -/
theorem scales (x : FVec Ideal S8192x9984 .bf16) (a : Fin 32) (b : Fin 2) (c : Fin 128) :
    k0_pay3 (F := Ideal) (k0_pay6 x) (ix3 a b c)
      = Target.rowScale (row x ⟨a.val * 256 + b.val * 128 + c.val, by omega⟩) := by
  rw [← scale]
  unfold k0_pay3
  refine shapeCast_apply _ _ _ _ ?_
  rw [Shape.rowMajor_val_two, Shape.rowMajor_val_three]
  show (a.val * 256 + b.val * 128 + c.val) * 1 + 0 = (a.val * 2 + b.val) * 128 + c.val
  omega

/-- The array of outputs: the rows in 1024 groups of 8. -/
theorem outputs (x : FVec Ideal S8192x9984 .bf16) (w : FVec Ideal S9984x2048 .fp8e4m3)
    (b : FVec Ideal S1x2048 .f32) (p : Fin 1024) (q : Fin 8) (l : Fin 2048) :
    k0_pay1 (F := Ideal) (k0_pay6 x) (k0_pay7 x) w b (ix3 p q l)
      = Target.output (row x ⟨p.val * 8 + q.val, by omega⟩) (fun k => w (ix2 k l)) (b (ix2 0 l)) := by
  unfold Target.output
  rw [← scale]
  simp only [← code]
  pointwise [k0_pay1]
  rfl

end Cert.ReferenceIdeal.Blocks
-- ==== Proof.RefArrays.lean ====
module

public import proofs.«01_k».proof.Proof.RefBlocks
public import Idealize.ShloMosaic.Lib.Pipeline.ValueKit
public import Idealize.ShloMosaic.Lib.Pointwise

/-! What the reference's three result arrays hold after the run, entry by entry. -/

@[expose] public section
set_option maxRecDepth 16384
noncomputable section

open Idealize.ShloMosaic Idealize.ShloMosaic.TcCoe Idealize.SL.Sem
open Idealize.ShloMosaic.Pipeline (Dat)

namespace Cert.ReferenceIdeal.Arrays
open Cert.ReferenceIdeal Cert.ReferenceIdeal.Gen

variable (m : (ℓ : Loc nD τ sig) → Buf (Elt Ideal) ℓ)

/-- The argument `x`. -/
abbrev x (c : Dev nD) : Fin 8 → Fin 1024 → Fin 9984 → EReal := fun a b k =>
  (show FVec Ideal S8x1024x9984 .bf16 from m ((c : Thread nD τ).loc main_arg0)) (ix3 a b k)
/-- The argument of weight codes. -/
abbrev w (c : Dev nD) : Fin 9984 → Fin 2048 → EReal := fun k l =>
  (show FVec Ideal S9984x2048 .fp8e4m3 from m ((c : Thread nD τ).loc main_arg1)) (ix2 k l)
/-- The argument of weight scales. -/
abbrev b (c : Dev nD) : Fin 2048 → EReal := fun l =>
  (show FVec Ideal S2048 .f32 from m ((c : Thread nD τ).loc main_arg2)) (ix1 l)

/-- The block of `x`: all its rows. -/
abbrev X (c : Dev nD) (t : Fin cfg0.N) : FVec Ideal S8192x9984 .bf16 := iblk m c 0 t
/-- The block of weight codes. -/
abbrev W (c : Dev nD) (t : Fin cfg0.N) : FVec Ideal S9984x2048 .fp8e4m3 := iblk m c 1 t
/-- The block of weight scales. -/
abbrev B (c : Dev nD) (t : Fin cfg0.N) : FVec Ideal S1x2048 .f32 := iblk m c 2 t

/-- The blocks' places. -/
theorem idx : ∀ t : Fin cfg0.N,
    win0_0.index t = ![0, 0] ∧ win0_1.index t = ![0, 0]
      ∧ win0_2.index t = ![0, 0] ∧ win0_3.index t = ![0, 0, 0]
      ∧ win0_4.index t = ![0, 0, 0] ∧ win0_5.index t = ![0, 0, 0] :=
  (by decide +kernel : ∀ t : Fin grid0.N, _)

/-- The batches laid out as 8192 rows read at a row. -/
theorem unbatch (g : FVec Ideal S8x1024x9984 .bf16) (r : Fin 8192) (k : Fin 9984) :
    shapeCast S8192x9984 g shapeCasts_S8x1024x9984_S8192x9984 (ix2 r k)
      = g (ix3 ⟨r.val / 1024 % 8, Nat.mod_lt _ (by decide)⟩
          ⟨r.val % 1024, Nat.mod_lt _ (by decide)⟩ k) := by
  refine shapeCast_apply _ _ _ _ ?_
  rw [Shape.rowMajor_val_two, Shape.rowMajor_val_three]
  have hr := r.isLt
  show (r.val / 1024 % 8 * 1024 + r.val % 1024) * 9984 + k.val = r.val * 9984 + k.val
  have : r.val / 1024 % 8 * 1024 + r.val % 1024 = r.val := by omega
  rw [this]

/-- A vector reshaped to one row reads at its column. -/
theorem unreshape (g : FVec Ideal S2048 .f32) (l : Fin 2048) :
    shapeCast S1x2048 g shapeCasts_S2048_S1x2048 (ix2 0 l) = g (ix1 l) := by
  pointwise

theorem row_eq (c : Dev nD) (t : Fin cfg0.N) (r : Fin 8192) :
    Blocks.row (X m c t) r = Target.rowOf (x m c) r.val := by
  funext k
  unfold Blocks.row X Target.rowOf x
  blk_simp [iblk]
  entry_read
  rw [show ((win0_0.blk t).view.emb (ix2 r k)) = (ix2 r k : S8192x9984.Idx) by blk_ext [idx t]]
  exact unbatch _ r k

theorem w_eq (c : Dev nD) (t : Fin cfg0.N) (k : Fin 9984) (l : Fin 2048) :
    W m c t (ix2 k l) = w m c k l := by
  unfold W w
  blk_ext [iblk, V_main_arg1, idx t]

theorem b_eq (c : Dev nD) (t : Fin cfg0.N) (l : Fin 2048) :
    B m c t (ix2 0 l) = b m c l := by
  unfold B b
  blk_simp [iblk]
  entry_read
  rw [show ((win0_2.blk t).view.emb (ix2 0 l)) = (ix2 0 l : S1x2048.Idx) by blk_ext [idx t]]
  exact unreshape _ l

/-- A code at index `y`. -/
theorem code_point (c : Dev nD) (t : Fin cfg0.N) (y : S8x1024x9984.Idx)
    (a : Fin 8) (p : Fin 1024) (k : Fin 9984) (ha : a.val = (y 0).val)
    (hp : p.val = (y 1).val) (hk : k.val = (y 2).val) :
    k0_pay2 (F := Ideal) (k0_pay7 (X m c t)) y = Target.codes (x m c) a p k := by
  (idx_vars y)
  obtain rfl : a = y0 := Fin.ext ha
  obtain rfl : p = y1 := Fin.ext hp
  obtain rfl : k = y2 := Fin.ext hk
  rw [Blocks.codes, row_eq]
  unfold Target.codes Target.rowOf
  refine congrArg (fun f => Scale.code f k) ?_
  funext j
  have h : a.val < 8 := a.isLt
  have h' : p.val < 1024 := p.isLt
  refine congrArg₂ (fun u v => x m c u v j) (Fin.ext ?_) (Fin.ext ?_)
  · show (a.val * 1024 + p.val) / 1024 % 8 = a.val
    omega
  · show (a.val * 1024 + p.val) % 1024 = p.val
    omega

/-- A scale at index `y`. -/
theorem scale_point (c : Dev nD) (t : Fin cfg0.N) (y : S32x2x128.Idx)
    (u : Fin 32) (a : Fin 2) (l : Fin 128) (hu : u.val = (y 0).val)
    (ha : a.val = (y 1).val) (hl : l.val = (y 2).val) :
    k0_pay3 (F := Ideal) (k0_pay6 (X m c t)) y = Target.scales (x m c) u a l := by
  (idx_vars y)
  obtain rfl : u = y0 := Fin.ext hu
  obtain rfl : a = y1 := Fin.ext ha
  obtain rfl : l = y2 := Fin.ext hl
  rw [Blocks.scales, row_eq]
  rfl

/-- An output at index `y`. -/
theorem output_point (c : Dev nD) (t : Fin cfg0.N) (y : S1024x8x2048.Idx)
    (u : Fin 1024) (q : Fin 8) (l : Fin 2048) (hu : u.val = (y 0).val)
    (hq : q.val = (y 1).val) (hl : l.val = (y 2).val) :
    k0_pay1 (F := Ideal) (k0_pay6 (X m c t)) (k0_pay7 (X m c t)) (W m c t) (B m c t) y
      = Target.outputs (x m c) (w m c) (b m c) u q l := by
  (idx_vars y)
  obtain rfl : u = y0 := Fin.ext hu
  obtain rfl : q = y1 := Fin.ext hq
  obtain rfl : l = y2 := Fin.ext hl
  rw [Blocks.outputs, row_eq, b_eq]
  simp only [w_eq]
  rfl

/-- The array of codes. -/
theorem codes (c : Dev nD) : (dats m 0 c).arrAt 4 cfg0.N
    = fun i => Target.codes (x m c) (i 0) (i 1) (i 2) := by
  refine (dats m 0 c).arrAt_eq_of_covers 4 _ (by decide +kernel) fun t _ y => ?_
  blk_simp
  rw [after0_4]
  frame_out
  unfold k0_pay9 r0_0
  simp (disch := decide) only [View.ld_unit_lit']
  exact code_point m c t y _ _ _ (by blk_simp [idx t]) (by blk_simp [idx t]) (by blk_simp [idx t])

/-- The array of scales. -/
theorem scales (c : Dev nD) : (dats m 0 c).arrAt 5 cfg0.N
    = fun i => Target.scales (x m c) (i 0) (i 1) (i 2) := by
  refine (dats m 0 c).arrAt_eq_of_covers 5 _ (by decide +kernel) fun t _ y => ?_
  blk_simp
  rw [after0_5]
  frame_out
  unfold k0_pay8 r0_0
  simp (disch := decide) only [View.ld_unit_lit']
  exact scale_point m c t y _ _ _ (by blk_simp [idx t]) (by blk_simp [idx t]) (by blk_simp [idx t])

/-- The array of outputs. -/
theorem outputs (c : Dev nD) : (dats m 0 c).arrAt 3 cfg0.N
    = fun i => Target.outputs (x m c) (w m c) (b m c) (i 0) (i 1) (i 2) := by
  refine (dats m 0 c).arrAt_eq_of_covers 3 _ (by decide +kernel) fun t _ y => ?_
  blk_simp
  rw [after0_3]
  frame_out
  unfold k0_pay8 k0_pay9 r0_0
  simp (disch := decide) only [View.ld_unit_lit']
  exact output_point m c t y _ _ _ (by blk_simp [idx t]) (by blk_simp [idx t]) (by blk_simp [idx t])

end Cert.ReferenceIdeal.Arrays
-- ==== Proof.Equation.lean ====
module

public import proofs.«01_k».proof.Proof.Arrays
public import proofs.«01_k».proof.Proof.RefArrays

/-! The equation: from arguments that agree, the reference's three result arrays hold what the
kernel's hold. -/

@[expose] public section
set_option maxRecDepth 16384
noncomputable section

open Idealize.ShloMosaic Idealize.ShloMosaic.TcCoe Idealize.SL.Sem

namespace Cert.Equation

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The two programs' arguments agree. -/
def Agree : Prop :=
  m' ((c.tc : Thread ReferenceIdeal.nD ReferenceIdeal.τ).loc ReferenceIdeal.main_arg0)
      = m ((c.tc : Thread KernelIdeal.nD KernelIdeal.τ).loc KernelIdeal.main_arg0)
    ∧ m' ((c.tc : Thread ReferenceIdeal.nD ReferenceIdeal.τ).loc ReferenceIdeal.main_arg1)
      = m ((c.tc : Thread KernelIdeal.nD KernelIdeal.τ).loc KernelIdeal.main_arg1)
    ∧ m' ((c.tc : Thread ReferenceIdeal.nD ReferenceIdeal.τ).loc ReferenceIdeal.main_arg2)
      = m ((c.tc : Thread KernelIdeal.nD KernelIdeal.τ).loc KernelIdeal.main_arg2)

variable {m m' c}

theorem x_eq (h : Agree m m' c) : ReferenceIdeal.Arrays.x m' c = KernelIdeal.Arrays.x m c := by
  funext a b k
  exact congrFun h.1 (ix3 a b k)

theorem w_eq (h : Agree m m' c) : ReferenceIdeal.Arrays.w m' c = KernelIdeal.Arrays.w m c := by
  funext k l
  exact congrFun h.2.1 (ix2 k l)

theorem b_eq (h : Agree m m' c) : ReferenceIdeal.Arrays.b m' c = KernelIdeal.Arrays.b m c := by
  funext l
  exact congrFun h.2.2 (ix1 l)

/-- The outputs agree. -/
theorem outputs (h : Agree m m' c) :
    (ReferenceIdeal.Gen.dats m' 0 c).arrAt 3 ReferenceIdeal.cfg0.N
      = (KernelIdeal.Gen.dats m 0 c).arrAt 3 KernelIdeal.cfg0.N := by
  rw [ReferenceIdeal.Arrays.outputs, x_eq h, w_eq h, b_eq h]
  exact (KernelIdeal.Arrays.outputs m c).symm

/-- The codes agree. -/
theorem codes (h : Agree m m' c) :
    (ReferenceIdeal.Gen.dats m' 0 c).arrAt 4 ReferenceIdeal.cfg0.N
      = (KernelIdeal.Gen.dats m 0 c).arrAt 4 KernelIdeal.cfg0.N := by
  rw [ReferenceIdeal.Arrays.codes, x_eq h]
  exact (KernelIdeal.Arrays.codes m c).symm

/-- The scales agree. -/
theorem scales (h : Agree m m' c) :
    (ReferenceIdeal.Gen.dats m' 0 c).arrAt 5 ReferenceIdeal.cfg0.N
      = (KernelIdeal.Gen.dats m 0 c).arrAt 5 KernelIdeal.cfg0.N := by
  rw [ReferenceIdeal.Arrays.scales, x_eq h]
  exact (KernelIdeal.Arrays.scales m c).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over the extended reals the kernel and the reference leave the same three arrays. -/
theorem algebraic : Cert.algebraic_KernelIdeal_ReferenceIdeal := by
  pair_intro
  · run_from Cert.KernelIdeal.Gen.run_main m g
  · run_from Cert.ReferenceIdeal.Gen.run_main m' g'
    · exact Cert.Equation.outputs (hagree c)
    · exact Cert.Equation.codes (hagree c)
    · exact Cert.Equation.scales (hagree c)

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
